-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_index_finite_base [hPre_binary_index_finite_base : Cert.Pre_binary_index_finite_base.Facts] (m : (ℓ : Loc Cert.KernelIdeal.nD Cert.KernelIdeal.τ Cert.KernelIdeal.sig) → Buf (Elt Ideal) ℓ) : Prop :=
  ∀ c : Dev Cert.KernelIdeal.nD,
    (Cert.Pre_binary_index_finite_base.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_index_finite_base [hPre_binary_index_finite_base : Cert.Pre_binary_index_finite_base.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_index_finite_base.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_binary_index_finite_base [hKernelIdeal : Cert.KernelIdeal.Facts] [hPre_binary_index_finite_base : Cert.Pre_binary_index_finite_base.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_index_finite_base m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_binary_index_finite_base [hReferenceIdeal : Cert.ReferenceIdeal.Facts] [hPre_binary_index_finite_base : Cert.Pre_binary_index_finite_base.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_index_finite_base m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_binary_index_finite_base [hKernelIdeal : Cert.KernelIdeal.Facts] [hReferenceIdeal : Cert.ReferenceIdeal.Facts] [hPre_binary_index_finite_base : Cert.Pre_binary_index_finite_base.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_index_finite_base m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_binary_index_finite_base : Cert.Pre_binary_index_finite_base.Facts),
    quiescent_Kernel (hKernel := hKernel)
    ∧ quiescent_KernelIdeal (hKernelIdeal := hKernelIdeal)
    ∧ quiescent_KernelIdeal_pre_binary_index_finite_base (hKernelIdeal := hKernelIdeal) (hPre_binary_index_finite_base := hPre_binary_index_finite_base)
    ∧ quiescent_ReferenceIdeal (hReferenceIdeal := hReferenceIdeal)
    ∧ quiescent_ReferenceIdeal_pre_binary_index_finite_base (hReferenceIdeal := hReferenceIdeal) (hPre_binary_index_finite_base := hPre_binary_index_finite_base)
    ∧ preserves_Kernel_KernelIdeal
    ∧ algebraic_KernelIdeal_ReferenceIdeal_pre_binary_index_finite_base (hKernelIdeal := hKernelIdeal) (hReferenceIdeal := hReferenceIdeal) (hPre_binary_index_finite_base := hPre_binary_index_finite_base)
-- ==== Pre_binary_index_finite_base.lean ====
abbrev S32x8x128x128 : Shape := ⟨4, ![32, 8, 128, 128]⟩
abbrev S1000x16 : Shape := ⟨2, ![1000, 16]⟩
abbrev S500x16 : Shape := ⟨2, ![500, 16]⟩
abbrev S100x16 : Shape := ⟨2, ![100, 16]⟩
abbrev S50x16 : Shape := ⟨2, ![50, 16]⟩
abbrev S32x4x128x128 : Shape := ⟨4, ![32, 4, 128, 128]⟩
abbrev S_ : Shape := ⟨0, ![]⟩
abbrev S1x16 : Shape := ⟨2, ![1, 16]⟩
abbrev S16 : Shape := ⟨1, ![16]⟩

class Facts : Prop where
  slices_S32x8x128x128_S32x4x128x128_0_4_0_0 : S32x8x128x128.Slices ![0, 4, 0, 0] S32x4x128x128
  bcast_S_S32x4x128x128 : S_.BroadcastsInDim S32x4x128x128 (![] : Fin 0 → Fin S32x4x128x128.rank)
  reducesTo_S32x4x128x128_S_d0_1_2_3 : S32x4x128x128.ReducesTo [0, 1, 2, 3] S_
  h_S_ : 0 < S_.numel
  slices_S1000x16_S1x16_0_0 : S1000x16.Slices ![0, 0] S1x16
  shapeCasts_S1x16_S16 : S1x16.ShapeCasts S16
  bcast_S_S16 : S_.BroadcastsInDim S16 (![] : Fin 0 → Fin S16.rank)
  reducesTo_S16_S_d0 : S16.ReducesTo [0] S_
  slices_S500x16_S1x16_0_0 : S500x16.Slices ![0, 0] S1x16
  slices_S100x16_S1x16_0_0 : S100x16.Slices ![0, 0] S1x16
  slices_S50x16_S1x16_0_0 : S50x16.Slices ![0, 0] S1x16

variable [Facts]

def fn_part1 {F : FTy → Type} [FloatOps F] (main_arg3 : FVec F S100x16 .f32) (main_arg4 : FVec F S50x16 .f32) (main_v13 : IVec S_ 1) (main_v16 : FVec F S16 .f32) (main_v17 : FVec F S16 .f32) : IVec S_ 1 :=
  let main_v18 : IVec S16 1 := cmpf .olt main_v16 main_v17
  let main_c_4 : IVec S_ 1 := constantI S_ 1 1#1
  let main_v19 : IVec S_ 1 := (fun x v => Host.reduce IntOp.andi x v reducesTo_S16_S_d0 h_S_) main_v18 main_c_4
  let main_v20 : IVec S_ 1 := andi main_v13 main_v19
  let main_v21 : FVec F S1x16 .f32 := (extractStridedSlice S1x16 ![0, 0] · slices_S100x16_S1x16_0_0) main_arg3
  let main_v22 : FVec F S16 .f32 := shapeCast S16 main_v21 shapeCasts_S1x16_S16
  let main_v23 : FVec F S16 .f32 := Host.absf main_v22
  let main_cst_5 : FVec F S_ .f32 := constant S_ .f32 0x7F800000#32
  let main_v24 : FVec F S16 .f32 := broadcastInDim S16 ![] bcast_S_S16 main_cst_5
  let main_v25 : IVec S16 1 := cmpf .olt main_v23 main_v24
  let main_c_6 : IVec S_ 1 := constantI S_ 1 1#1
  let main_v26 : IVec S_ 1 := (fun x v => Host.reduce IntOp.andi x v reducesTo_S16_S_d0 h_S_) main_v25 main_c_6
  let main_v27 : IVec S_ 1 := andi main_v20 main_v26
  let main_v28 : FVec F S1x16 .f32 := (extractStridedSlice S1x16 ![0, 0] · slices_S50x16_S1x16_0_0) main_arg4
  let main_v29 : FVec F S16 .f32 := shapeCast S16 main_v28 shapeCasts_S1x16_S16
  let main_v30 : FVec F S16 .f32 := Host.absf main_v29
  let main_cst_7 : FVec F S_ .f32 := constant S_ .f32 0x7F800000#32
  let main_v31 : FVec F S16 .f32 := broadcastInDim S16 ![] bcast_S_S16 main_cst_7
  let main_v32 : IVec S16 1 := cmpf .olt main_v30 main_v31
  let main_c_8 : IVec S_ 1 := constantI S_ 1 1#1
  let main_v33 : IVec S_ 1 := (fun x v => Host.reduce IntOp.andi x v reducesTo_S16_S_d0 h_S_) main_v32 main_c_8
  let main_v34 : IVec S_ 1 := andi main_v27 main_v33
  main_v34

def fn {F : FTy → Type} [FloatOps F] (main_arg0 : IVec S32x8x128x128 32) (main_arg1 : FVec F S1000x16 .f32) (main_arg2 : FVec F S500x16 .f32) (main_arg3 : FVec F S100x16 .f32) (main_arg4 : FVec F S50x16 .f32) : IVec S_ 1 :=
  let main_v0 : IVec S32x4x128x128 32 := (extractStridedSlice S32x4x128x128 ![0, 4, 0, 0] · slices_S32x8x128x128_S32x4x128x128_0_4_0_0) main_arg0
  let main_c : IVec S_ 32 := constantI S_ 32 0#32
  let main_v1 : IVec S32x4x128x128 32 := broadcastInDim S32x4x128x128 ![] bcast_S_S32x4x128x128 main_c
  let main_v2 : IVec S32x4x128x128 1 := cmpi .sge main_v0 main_v1
  let main_c_0 : IVec S_ 32 := constantI S_ 32 2#32
  let main_v3 : IVec S32x4x128x128 32 := broadcastInDim S32x4x128x128 ![] bcast_S_S32x4x128x128 main_c_0
  let main_v4 : IVec S32x4x128x128 1 := cmpi .slt main_v0 main_v3
  let main_v5 : IVec S32x4x128x128 1 := andi main_v2 main_v4
  let main_c_1 : IVec S_ 1 := constantI S_ 1 1#1
  let main_v6 : IVec S_ 1 := (fun x v => Host.reduce IntOp.andi x v reducesTo_S32x4x128x128_S_d0_1_2_3 h_S_) main_v5 main_c_1
  let main_v7 : FVec F S1x16 .f32 := (extractStridedSlice S1x16 ![0, 0] · slices_S1000x16_S1x16_0_0) main_arg1
  let main_v8 : FVec F S16 .f32 := shapeCast S16 main_v7 shapeCasts_S1x16_S16
  let main_v9 : FVec F S16 .f32 := Host.absf main_v8
  let main_cst : FVec F S_ .f32 := constant S_ .f32 0x7F800000#32
  let main_v10 : FVec F S16 .f32 := broadcastInDim S16 ![] bcast_S_S16 main_cst
  let main_v11 : IVec S16 1 := cmpf .olt main_v9 main_v10
  let main_c_2 : IVec S_ 1 := constantI S_ 1 1#1
  let main_v12 : IVec S_ 1 := (fun x v => Host.reduce IntOp.andi x v reducesTo_S16_S_d0 h_S_) main_v11 main_c_2
  let main_v13 : IVec S_ 1 := andi main_v6 main_v12
  let main_v14 : FVec F S1x16 .f32 := (extractStridedSlice S1x16 ![0, 0] · slices_S500x16_S1x16_0_0) main_arg2
  let main_v15 : FVec F S16 .f32 := shapeCast S16 main_v14 shapeCasts_S1x16_S16
  let main_v16 : FVec F S16 .f32 := Host.absf main_v15
  let main_cst_3 : FVec F S_ .f32 := constant S_ .f32 0x7F800000#32
  let main_v17 : FVec F S16 .f32 := broadcastInDim S16 ![] bcast_S_S16 main_cst_3
  fn_part1 (F := F) main_arg3 main_arg4 main_v13 main_v16 main_v17
-- ==== Kernel.lean ====
abbrev S32x8x128x128 : Shape := ⟨4, ![32, 8, 128, 128]⟩
abbrev S1000x16 : Shape := ⟨2, ![1000, 16]⟩
abbrev S500x16 : Shape := ⟨2, ![500, 16]⟩
abbrev S100x16 : Shape := ⟨2, ![100, 16]⟩
abbrev S50x16 : Shape := ⟨2, ![50, 16]⟩
abbrev S32x20x128x128 : Shape := ⟨4, ![32, 20, 128, 128]⟩
abbrev S1x8x32x128 : Shape := ⟨4, ![1, 8, 32, 128]⟩
abbrev S1x20x32x128 : Shape := ⟨4, ![1, 20, 32, 128]⟩
abbrev S8x32x128 : Shape := ⟨3, ![8, 32, 128]⟩
abbrev S4x32x128 : Shape := ⟨3, ![4, 32, 128]⟩
abbrev S1x4x32x128 : Shape := ⟨4, ![1, 4, 32, 128]⟩
abbrev S16 : Shape := ⟨1, ![16]⟩
abbrev S1x16 : Shape := ⟨2, ![1, 16]⟩
abbrev S16x1x1 : Shape := ⟨3, ![16, 1, 1]⟩
abbrev S16x32x128 : Shape := ⟨3, ![16, 32, 128]⟩
abbrev S1x32x128 : Shape := ⟨3, ![1, 32, 128]⟩
abbrev S32x128 : Shape := ⟨2, ![32, 128]⟩
abbrev S1x16x32x128 : Shape := ⟨4, ![1, 16, 32, 128]⟩

abbrev nBuf : Space → Nat
  | .hbm => 6
  | .vmem => 8
  | .smem => 0
  | _ => 0

abbrev bufTy : (tb : Table) → Fin (tcTables nBuf tb) → BufTy
  | .hbm, ⟨0, _⟩ => ⟨S32x8x128x128, .i32⟩
  | .hbm, ⟨1, _⟩ => ⟨S1000x16, .f32⟩
  | .hbm, ⟨2, _⟩ => ⟨S500x16, .f32⟩
  | .hbm, ⟨3, _⟩ => ⟨S100x16, .f32⟩
  | .hbm, ⟨4, _⟩ => ⟨S50x16, .f32⟩
  | .hbm, ⟨5, _⟩ => ⟨S32x20x128x128, .f32⟩
  | .local _ .vmem, ⟨0, _⟩ => ⟨S1x8x32x128, .i32⟩
  | .local _ .vmem, ⟨1, _⟩ => ⟨S1x8x32x128, .i32⟩
  | .local _ .vmem, ⟨2, _⟩ => ⟨S1000x16, .f32⟩
  | .local _ .vmem, ⟨3, _⟩ => ⟨S500x16, .f32⟩
  | .local _ .vmem, ⟨4, _⟩ => ⟨S100x16, .f32⟩
  | .local _ .vmem, ⟨5, _⟩ => ⟨S50x16, .f32⟩
  | .local _ .vmem, ⟨6, _⟩ => ⟨S1x20x32x128, .f32⟩
  | .local _ .vmem, ⟨7, _⟩ => ⟨S1x20x32x128, .f32⟩
  | _, _ => ⟨S32x8x128x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S500x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S100x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S50x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x20x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x8x128x128 : Shape := ⟨4, ![32, 8, 128, 128]⟩
abbrev S1000x16 : Shape := ⟨2, ![1000, 16]⟩
abbrev S500x16 : Shape := ⟨2, ![500, 16]⟩
abbrev S100x16 : Shape := ⟨2, ![100, 16]⟩
abbrev S50x16 : Shape := ⟨2, ![50, 16]⟩
abbrev S32x1x128x128 : Shape := ⟨4, ![32, 1, 128, 128]⟩
abbrev S32x128x128 : Shape := ⟨3, ![32, 128, 128]⟩
abbrev S_ : Shape := ⟨0, ![]⟩
abbrev S32x128x128x1 : Shape := ⟨4, ![32, 128, 128, 1]⟩
abbrev S1 : Shape := ⟨1, ![1]⟩
abbrev S1x1x1x1 : Shape := ⟨4, ![1, 1, 1, 1]⟩
abbrev S32x128x128x16 : Shape := ⟨4, ![32, 128, 128, 16]⟩
abbrev S32x16x128x128 : Shape := ⟨4, ![32, 16, 128, 128]⟩
abbrev S32x20x128x128 : Shape := ⟨4, ![32, 20, 128, 128]⟩

abbrev nBuf : Space → Nat
  | .hbm => 142
  | .vmem => 0
  | .smem => 0
  | _ => 0

abbrev hbmTy0_0 (i : Nat) : BufTy := match i % 128 with
  | 0 => ⟨S32x8x128x128, .i32⟩
  | 1 => ⟨S1000x16, .f32⟩
  | 2 => ⟨S500x16, .f32⟩
  | 3 => ⟨S100x16, .f32⟩
  | 4 => ⟨S50x16, .f32⟩
  | 5 => ⟨S32x8x128x128, .f32⟩
  | 6 => ⟨S32x1x128x128, .i32⟩
  | 7 => ⟨S32x128x128, .i32⟩
  | 8 => ⟨S32x1x128x128, .f32⟩
  | 9 => ⟨S32x128x128, .f32⟩
  | 10 => ⟨S32x1x128x128, .f32⟩
  | 11 => ⟨S32x1x128x128, .i32⟩
  | 12 => ⟨S32x128x128, .i32⟩
  | 13 => ⟨S32x1x128x128, .f32⟩
  | 14 => ⟨S32x128x128, .f32⟩
  | 15 => ⟨S32x1x128x128, .f32⟩
  | 16 => ⟨S32x1x128x128, .i32⟩
  | 17 => ⟨S32x128x128, .i32⟩
  | 18 => ⟨S32x1x128x128, .f32⟩
  | 19 => ⟨S32x128x128, .f32⟩
  | 20 => ⟨S32x1x128x128, .f32⟩
  | 21 => ⟨S32x1x128x128, .i32⟩
  | 22 => ⟨S32x128x128, .i32⟩
  | 23 => ⟨S32x1x128x128, .f32⟩
  | 24 => ⟨S32x128x128, .f32⟩
  | 25 => ⟨S32x1x128x128, .f32⟩
  | 26 => ⟨S32x1x128x128, .i32⟩
  | 27 => ⟨S32x128x128, .i32⟩
  | 28 => ⟨S32x1x128x128, .f32⟩
  | 29 => ⟨S32x128x128, .f32⟩
  | 30 => ⟨S_, .i32⟩
  | 31 => ⟨S32x128x128, .i32⟩
  | 32 => ⟨S32x128x128, .i1⟩
  | 33 => ⟨S_, .i32⟩
  | 34 => ⟨S32x128x128, .i32⟩
  | 35 => ⟨S32x128x128, .i32⟩
  | 36 => ⟨S32x128x128, .i32⟩
  | 37 => ⟨S32x128x128x1, .i32⟩
  | 38 => ⟨S1, .i32⟩
  | 39 => ⟨S_, .i32⟩
  | 40 => ⟨S32x128x128x1, .i32⟩
  | 41 => ⟨S32x128x128x1, .i1⟩
  | 42 => ⟨S1x1x1x1, .i32⟩
  | 43 => ⟨S32x128x128x1, .i32⟩
  | 44 => ⟨S32x128x128x1, .i1⟩
  | 45 => ⟨S32x128x128x1, .i1⟩
  | 46 => ⟨S_, .i1⟩
  | 47 => ⟨S32x128x128, .i1⟩
  | 48 => ⟨S32x128x128x16, .f32⟩
  | 49 => ⟨S32x128x128x16, .i1⟩
  | 50 => ⟨S_, .f32⟩
  | 51 => ⟨S32x128x128x16, .f32⟩
  | 52 => ⟨S32x128x128x16, .f32⟩
  | 53 => ⟨S32x16x128x128, .f32⟩
  | 54 => ⟨S32x1x128x128, .i32⟩
  | 55 => ⟨S32x128x128, .i32⟩
  | 56 => ⟨S32x1x128x128, .f32⟩
  | 57 => ⟨S32x128x128, .f32⟩
  | 58 => ⟨S_, .i32⟩
  | 59 => ⟨S32x128x128, .i32⟩
  | 60 => ⟨S32x128x128, .i1⟩
  | 61 => ⟨S_, .i32⟩
  | 62 => ⟨S32x128x128, .i32⟩
  | 63 => ⟨S32x128x128, .i32⟩
  | 64 => ⟨S32x128x128, .i32⟩
  | 65 => ⟨S32x128x128x1, .i32⟩
  | 66 => ⟨S1, .i32⟩
  | 67 => ⟨S_, .i32⟩
  | 68 => ⟨S32x128x128x1, .i32⟩
  | 69 => ⟨S32x128x128x1, .i1⟩
  | 70 => ⟨S1x1x1x1, .i32⟩
  | 71 => ⟨S32x128x128x1, .i32⟩
  | 72 => ⟨S32x128x128x1, .i1⟩
  | 73 => ⟨S32x128x128x1, .i1⟩
  | 74 => ⟨S_, .i1⟩
  | 75 => ⟨S32x128x128, .i1⟩
  | 76 => ⟨S32x128x128x16, .f32⟩
  | 77 => ⟨S32x128x128x16, .i1⟩
  | 78 => ⟨S_, .f32⟩
  | 79 => ⟨S32x128x128x16, .f32⟩
  | 80 => ⟨S32x128x128x16, .f32⟩
  | 81 => ⟨S32x16x128x128, .f32⟩
  | 82 => ⟨S32x1x128x128, .i32⟩
  | 83 => ⟨S32x128x128, .i32⟩
  | 84 => ⟨S32x1x128x128, .f32⟩
  | 85 => ⟨S32x128x128, .f32⟩
  | 86 => ⟨S_, .i32⟩
  | 87 => ⟨S32x128x128, .i32⟩
  | 88 => ⟨S32x128x128, .i1⟩
  | 89 => ⟨S_, .i32⟩
  | 90 => ⟨S32x128x128, .i32⟩
  | 91 => ⟨S32x128x128, .i32⟩
  | 92 => ⟨S32x128x128, .i32⟩
  | 93 => ⟨S32x128x128x1, .i32⟩
  | 94 => ⟨S1, .i32⟩
  | 95 => ⟨S_, .i32⟩
  | 96 => ⟨S32x128x128x1, .i32⟩
  | 97 => ⟨S32x128x128x1, .i1⟩
  | 98 => ⟨S1x1x1x1, .i32⟩
  | 99 => ⟨S32x128x128x1, .i32⟩
  | 100 => ⟨S32x128x128x1, .i1⟩
  | 101 => ⟨S32x128x128x1, .i1⟩
  | 102 => ⟨S_, .i1⟩
  | 103 => ⟨S32x128x128, .i1⟩
  | 104 => ⟨S32x128x128x16, .f32⟩
  | 105 => ⟨S32x128x128x16, .i1⟩
  | 106 => ⟨S_, .f32⟩
  | 107 => ⟨S32x128x128x16, .f32⟩
  | 108 => ⟨S32x128x128x16, .f32⟩
  | 109 => ⟨S32x16x128x128, .f32⟩
  | 110 => ⟨S32x1x128x128, .i32⟩
  | 111 => ⟨S32x128x128, .i32⟩
  | 112 => ⟨S32x1x128x128, .f32⟩
  | 113 => ⟨S32x128x128, .f32⟩
  | 114 => ⟨S_, .i32⟩
  | 115 => ⟨S32x128x128, .i32⟩
  | 116 => ⟨S32x128x128, .i1⟩
  | 117 => ⟨S_, .i32⟩
  | 118 => ⟨S32x128x128, .i32⟩
  | 119 => ⟨S32x128x128, .i32⟩
  | 120 => ⟨S32x128x128, .i32⟩
  | 121 => ⟨S32x128x128x1, .i32⟩
  | 122 => ⟨S1, .i32⟩
  | 123 => ⟨S_, .i32⟩
  | 124 => ⟨S32x128x128x1, .i32⟩
  | 125 => ⟨S32x128x128x1, .i1⟩
  | 126 => ⟨S1x1x1x1, .i32⟩
  | 127 => ⟨S32x128x128x1, .i32⟩
  | _ => ⟨S32x8x128x128, .i32⟩

abbrev hbmTy0_1 (i : Nat) : BufTy := match i % 128 with
  | 0 => ⟨S32x128x128x1, .i1⟩
  | 1 => ⟨S32x128x128x1, .i1⟩
  | 2 => ⟨S_, .i1⟩
  | 3 => ⟨S32x128x128, .i1⟩
  | 4 => ⟨S32x128x128x16, .f32⟩
  | 5 => ⟨S32x128x128x16, .i1⟩
  | 6 => ⟨S_, .f32⟩
  | 7 => ⟨S32x128x128x16, .f32⟩
  | 8 => ⟨S32x128x128x16, .f32⟩
  | 9 => ⟨S32x16x128x128, .f32⟩
  | 10 => ⟨S32x16x128x128, .f32⟩
  | 11 => ⟨S32x16x128x128, .f32⟩
  | 12 => ⟨S32x16x128x128, .f32⟩
  | 13 => ⟨S32x20x128x128, .f32⟩
  | _ => ⟨S32x8x128x128, .i32⟩

abbrev hbmTy (i : Nat) : BufTy := match i / 128 with
  | 0 => hbmTy0_0 i
  | 1 => hbmTy0_1 i
  | _ => ⟨S32x8x128x128, .i32⟩

abbrev bufTy : (tb : Table) → Fin (tcTables nBuf tb) → BufTy
  | .hbm, ⟨i, _⟩ => hbmTy i
  | _, _ => ⟨S32x8x128x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩

abbrev nD : Nat := 1
abbrev τ : Topo := Topo.v7x

variable {F : FTy → Type} [FloatOps F]
-- ==== Proof.Spec.lean ====
/-
  The function both programs compute, written entry by entry over the extended reals, and the algebra that joins the
  kernel's blend of two table rows to the reference's choice between them.
-/
module

public import Idealize.ShloMosaic.PureOps.Ideal

@[expose] public section

noncomputable section

namespace Cert.Spec

/-- A 32-bit word as the extended real of its signed value. -/
def num (x : BitVec 32) : EReal := ((x.toInt : ℝ) : EReal)

/-- The kernel's embedding entry: the sum of the four first rows, plus each word times the difference of its table's
second and first rows. -/
def blend (u₄ u₅ u₆ u₇ a₀ a₁ b₀ b₁ c₀ c₁ d₀ d₁ : EReal) : EReal :=
  ((((((a₀ + b₀) + c₀) + d₀) + u₄ * (a₁ - a₀)) + u₅ * (b₁ - b₀)) + u₆ * (c₁ - c₀)) + u₇ * (d₁ - d₀)

/-- The word 0 is the real 0. -/
theorem num_zero : num 0#32 = 0 := by simp [num]

/-- The word 1 is the real 1. -/
theorem num_one : num 1#32 = 1 := by simp [num]

/-- A finite first row plus the difference to the second is the second row, whatever extended real that is. -/
theorem add_sub_of_finite (x y : EReal) (h : x ≠ ⊤) (h' : x ≠ ⊥) : x + (y - x) = y := by
  lift x to ℝ using ⟨h, h'⟩
  induction y with
  | bot => simp
  | top => simp
  | coe y => norm_cast; ring

/-- Blending by the word 0 or 1 is choosing the first or the second row, when the first is finite. -/
theorem choose (u : BitVec 32) (x y : EReal) (hu : u = 0#32 ∨ u = 1#32) (h : x ≠ ⊤) (h' : x ≠ ⊥) :
    x + num u * (y - x) = if u = 0#32 then x else y := by
  rcases hu with rfl | rfl
  · rw [num_zero, zero_mul, add_zero, if_pos rfl]
  · rw [num_one, one_mul, if_neg (by decide), add_sub_of_finite x y h h']

/-- The kernel's entry is the sum of the four rows the words choose. -/
theorem blend_eq (u₄ u₅ u₆ u₇ : BitVec 32) (a₀ a₁ b₀ b₁ c₀ c₁ d₀ d₁ : EReal)
    (h₄ : u₄ = 0#32 ∨ u₄ = 1#32) (h₅ : u₅ = 0#32 ∨ u₅ = 1#32) (h₆ : u₆ = 0#32 ∨ u₆ = 1#32) (h₇ : u₇ = 0#32 ∨ u₇ = 1#32)
    (ha : a₀ ≠ ⊤ ∧ a₀ ≠ ⊥) (hb : b₀ ≠ ⊤ ∧ b₀ ≠ ⊥) (hc : c₀ ≠ ⊤ ∧ c₀ ≠ ⊥) (hd : d₀ ≠ ⊤ ∧ d₀ ≠ ⊥) :
    blend (num u₄) (num u₅) (num u₆) (num u₇) a₀ a₁ b₀ b₁ c₀ c₁ d₀ d₁
      = (((if u₄ = 0#32 then a₀ else a₁) + (if u₅ = 0#32 then b₀ else b₁)) + (if u₆ = 0#32 then c₀ else c₁))
        + (if u₇ = 0#32 then d₀ else d₁) := by
  rw [← choose u₄ a₀ a₁ h₄ ha.1 ha.2, ← choose u₅ b₀ b₁ h₅ hb.1 hb.2, ← choose u₆ c₀ c₁ h₆ hc.1 hc.2,
    ← choose u₇ d₀ d₁ h₇ hd.1 hd.2]
  unfold blend
  ac_rfl

end Cert.Spec

end
-- ==== Proof.Block.lean ====
/-
  What the kernel's body leaves in its output block, entry by entry, over the extended reals.
-/
module

public import proofs.«01_k».proof.Proof.Spec
public import proofs.«01_k».proof.Proof.Gen.KernelIdeal.Value
public import Idealize.ShloMosaic.Lib.Pipeline.Value
public import Idealize.ShloMosaic.Lib.WritesUnit
public import Idealize.ShloMosaic.Lib.Pointwise
public import Idealize.ShloMosaic.Lib.Tactic

@[expose] public section

noncomputable section

namespace Cert.KernelIdeal.Block

open Idealize.ShloMosaic Idealize.ShloMosaic.TcCoe Idealize.SL.Sem
open Cert.Spec
open Cert.KernelIdeal Cert.KernelIdeal.Gen

/-- The value of the embedding store at channel `ch`: the blend of the two loaded rows of each table by the words of
input channels 4 to 7. -/
theorem embed_apply (v : Vec Ideal S1x8x32x128 .i32) (a₀ a₁ b₀ b₁ c₀ c₁ d₀ d₁ : Vec Ideal S1x16 .f32)
    (ch : Fin 16) (h : Fin 32) (w : Fin 128) :
    k0_pay1 (F := Ideal) (k0_pay2 v) (k0_pay5 a₀ a₁) (k0_pay7 b₀ b₁) (k0_pay9 c₀ c₁) (k0_pay11 a₀ b₀ c₀ d₀) (k0_pay12 d₀ d₁)
        (ix4 (0 : Fin 1) ch h w)
      = blend (num (v (ix4 0 4 h w))) (num (v (ix4 0 5 h w))) (num (v (ix4 0 6 h w))) (num (v (ix4 0 7 h w)))
          (a₀ (ix2 0 ch)) (a₁ (ix2 0 ch)) (b₀ (ix2 0 ch)) (b₁ (ix2 0 ch)) (c₀ (ix2 0 ch)) (c₁ (ix2 0 ch))
          (d₀ (ix2 0 ch)) (d₁ (ix2 0 ch)) := by
  unfold_payloads
  pointwise
  rfl

/-- The value of the continuous store at channel `ch`: the word of input channel `ch` as a real. -/
theorem cont_apply (v : Vec Ideal S1x8x32x128 .i32) (ch : Fin 4) (h : Fin 32) (w : Fin 128) :
    k0_pay3 (F := Ideal) v (ix4 (0 : Fin 1) ch h w) = num (v (ix4 0 (ch.castLE (by decide)) h w)) := by
  unfold_payloads
  pointwise
  rfl

/-- The output block as a function of the input block and the four tables. -/
def out (x : Vec Ideal S1x8x32x128 .i32) (A : Vec Ideal S1000x16 .f32) (B : Vec Ideal S500x16 .f32)
    (C : Vec Ideal S100x16 .f32) (D : Vec Ideal S50x16 .f32) (ch : Fin 20) (h : Fin 32) (w : Fin 128) : EReal :=
  if hc : ch.val < 16 then
    blend (num (x (ix4 0 4 h w))) (num (x (ix4 0 5 h w))) (num (x (ix4 0 6 h w))) (num (x (ix4 0 7 h w)))
      (A (ix2 0 ⟨ch, hc⟩)) (A (ix2 1 ⟨ch, hc⟩)) (B (ix2 0 ⟨ch, hc⟩)) (B (ix2 1 ⟨ch, hc⟩))
      (C (ix2 0 ⟨ch, hc⟩)) (C (ix2 1 ⟨ch, hc⟩)) (D (ix2 0 ⟨ch, hc⟩)) (D (ix2 1 ⟨ch, hc⟩))
  else num (x (ix4 0 ⟨ch.val - 16, by omega⟩ h w))

/-- The body's two stores leave `out` of the blocks it is called with, whatever memory they lie in. -/
theorem out_apply (c : Dev nD) (i : grid0.Coords) (arg2 : Memref sig .tc .vmem S1x8x32x128 .i32) (harg2 : arg2.IsWhole) (arg3 : Memref sig .tc .vmem S1000x16 .f32) (harg3 : arg3.IsWhole) (arg4 : Memref sig .tc .vmem S500x16 .f32) (harg4 : arg4.IsWhole) (arg5 : Memref sig .tc .vmem S100x16 .f32) (harg5 : arg5.IsWhole) (arg6 : Memref sig .tc .vmem S50x16 .f32) (harg6 : arg6.IsWhole) (arg7 : Memref sig .tc .vmem S1x20x32x128 .f32) (harg7 : arg7.IsWhole)
    (x0 : Vec Ideal S1x8x32x128 .i32) (x1 : Vec Ideal S1000x16 .f32) (x2 : Vec Ideal S500x16 .f32) (x3 : Vec Ideal S100x16 .f32) (x4 : Vec Ideal S50x16 .f32)
    (ch : Fin 20) (h : Fin 32) (w : Fin 128) :
    out0_A_5 c i arg2 harg2 arg3 harg3 arg4 harg4 arg5 harg5 arg6 harg6 arg7 harg7 x0 x1 x2 x3 x4 (ix4 (0 : Fin 1) ch h w)
      = out x0 x1 x2 x3 x4 ch h w := by
  unfold out0_A_5 kernelRun0_A out
  dsimp only
  sl_unfold_words
  simp only [View.readAt_eq_ld, harg2.read_unread, harg3.read_unread, harg4.read_unread, harg5.read_unread, harg6.read_unread]
  by_cases hc : ch.val < 16
  · rw [dif_pos hc]
    refine (View.read_writes_cons_unit_of_mem VO0_5 _ _ _ _ (ix4 (0 : Fin 1) ch h w)
      (ix4 (0 : Fin 1) (⟨ch, hc⟩ : Fin 16) h w) rfl fun a => ?_).trans ((embed_apply _ _ _ _ _ _ _ _ _ _ _ _).trans ?_)
    · fin_cases a <;> simp
    · pointwise
  · rw [dif_neg hc]
    refine (View.read_writes_cons_unit_of_not_mem VO0_5 _ _ _ _ (ix4 (0 : Fin 1) ch h w) rfl (1 : Fin 4)
      (Or.inr ?_)).trans ((View.read_writes_cons_unit_of_mem VO0_5 _ _ _ _ (ix4 (0 : Fin 1) ch h w)
      (ix4 (0 : Fin 1) (⟨ch.val - 16, by omega⟩ : Fin 4) h w) rfl fun a => ?_).trans ((cont_apply _ _ _ _).trans ?_))
    · simp
      omega
    · fin_cases a <;> simp
      omega
    · pointwise
      rfl

end Cert.KernelIdeal.Block

end
-- ==== Proof.Kernel.lean ====
/-
  The kernel's result array as one function of its arguments: every grid point writes back its block of that function, and
  the blocks fill the array.
-/
module

public import proofs.«01_k».proof.Proof.Block

@[expose] public section

noncomputable section

namespace Cert.KernelIdeal.Whole

open Idealize.ShloMosaic Idealize.ShloMosaic.TcCoe Idealize.SL.Sem
open Idealize.ShloMosaic.Pipeline (Dat)
open Cert.Spec
open Cert.KernelIdeal Cert.KernelIdeal.Gen

/-- The result of the kernel as a function of its arguments: in channels 0 to 15 the blend of the tables' first two rows
by the words of channels 4 to 7, in channels 16 to 19 the words of channels 0 to 3. -/
def result (X : IVec S32x8x128x128 32) (A : FVec Ideal S1000x16 .f32) (B : FVec Ideal S500x16 .f32)
    (C : FVec Ideal S100x16 .f32) (D : FVec Ideal S50x16 .f32) (b : Fin 32) (ch : Fin 20) (h w : Fin 128) : EReal :=
  if hc : ch.val < 16 then
    blend (num (X (ix4 b 4 h w))) (num (X (ix4 b 5 h w))) (num (X (ix4 b 6 h w))) (num (X (ix4 b 7 h w)))
      (A (ix2 0 ⟨ch, hc⟩)) (A (ix2 1 ⟨ch, hc⟩)) (B (ix2 0 ⟨ch, hc⟩)) (B (ix2 1 ⟨ch, hc⟩))
      (C (ix2 0 ⟨ch, hc⟩)) (C (ix2 1 ⟨ch, hc⟩)) (D (ix2 0 ⟨ch, hc⟩)) (D (ix2 1 ⟨ch, hc⟩))
  else num (X (ix4 b ⟨ch.val - 16, by omega⟩ h w))

variable (m : (ℓ : Loc nD τ sig) → Buf (Elt Ideal) ℓ)

/-- `result` of the argument arrays of core `c`, as contents of the result array. -/
def goal (c : Dev nD) : Buf (Elt Ideal) ((c : Thread nD τ).loc main_v0) :=
  fun i : S32x20x128x128.Idx =>
    result (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) (i 2) (i 3)

/-- Where the blocks lie: point `t` works on batch entry `t / 4` and rows `32 (t % 4)` on, of all channels and columns;
the tables are whole. -/
theorem index_facts : ∀ t : Fin cfg0.N,
    win0_5.xsize (grid0.coords t) = ![1, 20, 32, 128] ∧ win0_5.index t = ![t.val / 4, 0, t.val % 4, 0]
      ∧ win0_0.index t = ![t.val / 4, 0, t.val % 4, 0]
      ∧ win0_1.index t = ![0, 0] ∧ win0_2.index t = ![0, 0] ∧ win0_3.index t = ![0, 0] ∧ win0_4.index t = ![0, 0] :=
  (by decide +kernel : ∀ t : Fin grid0.N,
    win0_5.xsize (grid0.coords t) = ![1, 20, 32, 128] ∧ win0_5.index t = ![t.val / 4, 0, t.val % 4, 0]
      ∧ win0_0.index t = ![t.val / 4, 0, t.val % 4, 0]
      ∧ win0_1.index t = ![0, 0] ∧ win0_2.index t = ![0, 0] ∧ win0_3.index t = ![0, 0] ∧ win0_4.index t = ![0, 0])

/-- The input block of point `t`, entry by entry. -/
theorem words_apply (c : Dev nD) (t : Fin cfg0.N) (k : Fin 8) (h : Fin 32) (w : Fin 128)
    (hb : t.val / 4 < 32) (hr : t.val % 4 * 32 + h.val < 128) :
    (iblk m c 0 t : Vec Ideal S1x8x32x128 .i32) (ix4 0 k h w)
      = (m ((c : Thread nD τ).loc main_arg0) : IVec S32x8x128x128 32) (ix4 ⟨t.val / 4, hb⟩ k ⟨t.val % 4 * 32 + h.val, hr⟩ w) := by
  obtain ⟨-, -, h0, -⟩ := index_facts t
  show (m ((c : Thread nD τ).loc main_arg0) : IVec S32x8x128x128 32) ((win0_0.rect t).emb (ix4 0 k h w)) = _
  refine congrArg _ (funext fun a => Fin.ext ?_)
  show win0_0.index t a * win0_0.size a + 1 * ((ix4 (0 : Fin 1) k h w : S1x8x32x128.Idx) a).val = _
  rw [h0]
  fin_cases a <;> simp

/-- The block of table 1 is the table. -/
theorem table1 (c : Dev nD) (t : Fin cfg0.N) :
    (iblk m c 1 t : Vec Ideal S1000x16 .f32) = m ((c : Thread nD τ).loc main_arg1) := by
  obtain ⟨-, -, -, hi, -⟩ := index_facts t
  funext j
  show (m ((c : Thread nD τ).loc main_arg1) : FVec Ideal S1000x16 .f32) ((win0_1.rect t).emb j) = _
  refine congrArg _ (funext fun a => Fin.ext ?_)
  show win0_1.index t a * win0_1.size a + 1 * (j a).val = _
  rw [hi]
  fin_cases a <;> simp

/-- The block of table 2 is the table. -/
theorem table2 (c : Dev nD) (t : Fin cfg0.N) :
    (iblk m c 2 t : Vec Ideal S500x16 .f32) = m ((c : Thread nD τ).loc main_arg2) := by
  obtain ⟨-, -, -, -, hi, -⟩ := index_facts t
  funext j
  show (m ((c : Thread nD τ).loc main_arg2) : FVec Ideal S500x16 .f32) ((win0_2.rect t).emb j) = _
  refine congrArg _ (funext fun a => Fin.ext ?_)
  show win0_2.index t a * win0_2.size a + 1 * (j a).val = _
  rw [hi]
  fin_cases a <;> simp

/-- The block of table 3 is the table. -/
theorem table3 (c : Dev nD) (t : Fin cfg0.N) :
    (iblk m c 3 t : Vec Ideal S100x16 .f32) = m ((c : Thread nD τ).loc main_arg3) := by
  obtain ⟨-, -, -, -, -, hi, -⟩ := index_facts t
  funext j
  show (m ((c : Thread nD τ).loc main_arg3) : FVec Ideal S100x16 .f32) ((win0_3.rect t).emb j) = _
  refine congrArg _ (funext fun a => Fin.ext ?_)
  show win0_3.index t a * win0_3.size a + 1 * (j a).val = _
  rw [hi]
  fin_cases a <;> simp

/-- The block of table 4 is the table. -/
theorem table4 (c : Dev nD) (t : Fin cfg0.N) :
    (iblk m c 4 t : Vec Ideal S50x16 .f32) = m ((c : Thread nD τ).loc main_arg4) := by
  obtain ⟨-, -, -, -, -, -, hi⟩ := index_facts t
  funext j
  show (m ((c : Thread nD τ).loc main_arg4) : FVec Ideal S50x16 .f32) ((win0_4.rect t).emb j) = _
  refine congrArg _ (funext fun a => Fin.ext ?_)
  show win0_4.index t a * win0_4.size a + 1 * (j a).val = _
  rw [hi]
  fin_cases a <;> simp

/-- The block the body computes at point `t` is the result at the array indices the block lies on. -/
theorem out_eq (c : Dev nD) (t : Fin cfg0.N) (ch : Fin 20) (h : Fin 32) (w : Fin 128) (b : Fin 32) (ch' : Fin 20)
    (r w' : Fin 128) (hb : b.val = t.val / 4) (hch : ch'.val = ch.val) (hr : r.val = t.val % 4 * 32 + h.val) (hw : w'.val = w.val) :
    Block.out (iblk m c 0 t) (iblk m c 1 t) (iblk m c 2 t) (iblk m c 3 t) (iblk m c 4 t) ch h w
      = result (m ((c : Thread nD τ).loc main_arg0)) (m ((c : Thread nD τ).loc main_arg1)) (m ((c : Thread nD τ).loc main_arg2))
          (m ((c : Thread nD τ).loc main_arg3)) (m ((c : Thread nD τ).loc main_arg4)) b ch' r w' := by
  obtain rfl : ch' = ch := Fin.ext hch
  obtain rfl : w' = w := Fin.ext hw
  have hb' : t.val / 4 < 32 := hb ▸ b.isLt
  have hr' : t.val % 4 * 32 + h.val < 128 := hr ▸ r.isLt
  obtain rfl : b = ⟨t.val / 4, hb'⟩ := Fin.ext hb
  obtain rfl : r = ⟨t.val % 4 * 32 + h.val, hr'⟩ := Fin.ext hr
  unfold Block.out result
  rw [table1, table2, table3, table4]
  simp only [words_apply m c t _ h w' hb' hr']

/-- What point `t` writes back is its block of `goal`. -/
theorem flushed_eq (c : Dev nD) (t : Fin cfg0.N) :
    (dats m 0 c).flushed 5 t = (win0_5.blk t).view.read (Elt Ideal) (goal m c) := by
  obtain ⟨hs, h5, -⟩ := index_facts t
  rw [Value.flushed5_A]
  funext j
  have key : ∀ (y : S1x20x32x128.Idx) (i : S32x20x128x128.Idx), (i 0).val = t.val / 4 → (i 1).val = (y 1).val →
      (i 2).val = t.val % 4 * 32 + (y 2).val → (i 3).val = (y 3).val →
      out0_A_5 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (iblk m c 0 t) (iblk m c 1 t) (iblk m c 2 t) (iblk m c 3 t) (iblk m c 4 t) y
        = goal m c i := by
    intro y i hb hc hr hw
    obtain ⟨ch, h, w, rfl⟩ : ∃ (ch : Fin 20) (h : Fin 32) (w : Fin 128), y = ix4 (0 : Fin 1) ch h w :=
      ⟨y 1, y 2, y 3, (eq_ix4 y).trans (congrArg (ix4 · (y 1) (y 2) (y 3)) (Subsingleton.elim (α := Fin 1) (y 0) 0))⟩
    exact (Block.out_apply _ _ _ _ _ _ _ _ _ _ _ _ _ _ _ _ _ _ _ _ _ _).trans (out_eq m c t _ _ _ _ _ _ _ hb hc hr hw)
  refine key ((cfg0.win 5).xinj (grid0.coords t) j) ((win0_5.rect t).emb j) ?_ ?_ ?_ ?_
  · show win0_5.index t (0 : Fin 4) * 1 + 1 * (j (0 : Fin 4)).val = _
    have hj : (j (0 : Fin 4)).val < 1 := ((cfg0.win 5).xinj (grid0.coords t) j (0 : Fin 4)).isLt
    rw [h5]
    simp
    omega
  · show win0_5.index t (1 : Fin 4) * 20 + 1 * (j (1 : Fin 4)).val = (j (1 : Fin 4)).val
    rw [h5]
    simp
  · show win0_5.index t (2 : Fin 4) * 32 + 1 * (j (2 : Fin 4)).val = _ + (j (2 : Fin 4)).val
    rw [h5]
    simp
  · show win0_5.index t (3 : Fin 4) * 128 + 1 * (j (3 : Fin 4)).val = (j (3 : Fin 4)).val
    rw [h5]
    simp

/-- An array index lies in the block of point `t` when its batch entry is `t / 4` and its row is among the 32 from
`32 (t % 4)` on. -/
theorem mem_blk (t : Fin cfg0.N) (i : S32x20x128x128.Idx) (hb : (i 0).val = t.val / 4) (hr : (i 2).val / 32 = t.val % 4) :
    i ∈ ((cfg0.win 5).blk t).view.set := by
  obtain ⟨hs, h5, -⟩ := index_facts t
  show i ∈ ((View.whole main_v0).slice (win0_5.rect t)).set
  rw [View.set_slice_whole, Rect.mem_set_unit]
  intro a
  show win0_5.index t a * win0_5.size a ≤ (i a : Nat) ∧ (i a : Nat) < win0_5.index t a * win0_5.size a + win0_5.xsize (grid0.coords t) a
  rw [h5, hs]
  have h1 : (i 1).val < 20 := (i 1).isLt
  have h3 : (i 3).val < 128 := (i 3).isLt
  fin_cases a
  · show t.val / 4 * 1 ≤ (i 0).val ∧ (i 0).val < t.val / 4 * 1 + 1
    omega
  · show 0 * 20 ≤ (i 1).val ∧ (i 1).val < 0 * 20 + 20
    omega
  · show t.val % 4 * 32 ≤ (i 2).val ∧ (i 2).val < t.val % 4 * 32 + 32
    omega
  · show 0 * 128 ≤ (i 3).val ∧ (i 3).val < 0 * 128 + 128
    omega

/-- The blocks fill the array. -/
theorem cover (i : S32x20x128x128.Idx) :
    ∃ t : Fin cfg0.N, (cfg0.win 5).flush t = true ∧ i ∈ ((cfg0.win 5).blk t).view.set := by
  have h0 : (i 0).val < 32 := (i 0).isLt
  have h2 : (i 2).val < 128 := (i 2).isLt
  have hN : cfg0.N = 128 := N_0
  refine ⟨⟨(i 0).val * 4 + (i 2).val / 32, by omega⟩, flush0_5 _, mem_blk _ i ?_ ?_⟩
  · dsimp only
    omega
  · dsimp only
    omega

/-- So the result array ends holding `goal`. -/
theorem final (c : Dev nD) : (dats m 0 c).arrAt 5 cfg0.N = goal m c :=
  (dats m 0 c).arrAt_eq_of_cover 5 (goal m c) (fun t _ => flushed_eq m c t) cover

end Cert.KernelIdeal.Whole

end
-- ==== Proof.Take.lean ====
/-
  Looking rows of a table up at words 0 and 1, as the reference does it: a negative index wraps, an index out of range
  gives a fill value, and neither happens at 0 or 1.
-/
module

public import proofs.«01_k».proof.Proof.Spec
public import proofs.«01_k».proof.Proof.Gen.ReferenceIdeal.Run
public import Idealize.ShloMosaic.Lib.ValueIdxCore
public import Idealize.ShloMosaic.Lib.ReduceAll
public import Idealize.ShloMosaic.Lib.Pointwise

@[expose] public section

noncomputable section

namespace Cert.ReferenceIdeal.Take

open Idealize.ShloMosaic Idealize.SL.Sem
open Cert.ReferenceIdeal Cert.ReferenceIdeal.Gen

/-- A table of `N` rows of 16. -/
abbrev Table (N : Nat) : Shape := ⟨2, ![N, 16]⟩

/-- The dimension numbers of the lookup in a table of `N` rows: one row of 16 per index. -/
abbrev dims (N : Nat) (wf : GatherDims.WF (Table N) S32x128x128x1 S32x128x128x16 [3] [0] [] [0] [] 3 ![1, 16]) :
    GatherDims (Table N) S32x128x128x1 S32x128x128x16 where
  offsetDims := [3]
  collapsedSliceDims := [0]
  operandBatchingDims := []
  startIndicesBatchingDims := []
  startIndexMap := [0]
  indexVectorDim := 3
  sliceSizes := ![1, 16]
  wf := wf

/-- The lookup at `(b, h, w, ch)`: column `ch` of the row the index names, read signed and kept inside the table. -/
theorem gather_apply {N : Nat} (hN : 0 < N)
    (wf : GatherDims.WF (Table N) S32x128x128x1 S32x128x128x16 [3] [0] [] [0] [] 3 ![1, 16])
    (W : (Table N).Idx → EReal) (I : IVec S32x128x128x1 32) (b : Fin 32) (h w : Fin 128) (ch : Fin 16) :
    Host.gather (dims N wf) W I (ix4 b h w ch)
      = W (ix2 ⟨min (I (ix4 b h w 0)).toInt.toNat (N - 1), by omega⟩ ch) := by
  unfold Host.gather
  congr 1
  funext a
  refine Fin.ext ?_
  show (dims N wf).start (ix4 b h w ch) I a + (dims N wf).batchCoord (ix4 b h w ch) a + (dims N wf).offCoord (ix4 b h w ch) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    show (dims N wf).start (ix4 b h w ch) I (0 : Fin 2) = min (I (ix4 b h w 0)).toInt.toNat (N - 1)
    unfold GatherDims.start
    rw [dif_pos (show (0 : Fin 2) ∈ (dims N wf).startIndexMap from List.mem_singleton.mpr rfl)]
    have hsi : (dims N wf).siIdx (ix4 b h w ch) ⟨List.idxOf (0 : Fin 2) (dims N wf).startIndexMap,
        List.idxOf_lt_length_iff.2 (List.mem_singleton.mpr rfl)⟩ = ix4 b h w 0 := by
      funext a
      refine Fin.ext ?_
      match a with
      | ⟨0, _⟩ => rfl
      | ⟨1, _⟩ => rfl
      | ⟨2, _⟩ => rfl
      | ⟨3, _⟩ => rfl
    rw [hsi]
    rfl
  | ⟨1, _⟩ =>
    unfold GatherDims.start
    rw [dif_neg (by simp)]
    simp only [Nat.zero_add]
    rfl

/-- The index array of the lookup: words with a negative one wrapped by the table's length `n`. -/
def index (n : BitVec 32) (U : IVec S32x128x128 32) : IVec S32x128x128x1 32 :=
  broadcastInDim S32x128x128x1 ![0, 1, 2] bcast_S32x128x128_S32x128x128x1_0_1_2
    (select (cmpi .slt U (broadcastInDim S32x128x128 ![] bcast_S_S32x128x128 (constantI S_ 32 0#32)))
      (addi U (broadcastInDim S32x128x128 ![] bcast_S_S32x128x128 (constantI S_ 32 n))) U)

/-- Words 0 and 1 are their own indices. -/
theorem index_apply (n : BitVec 32) (U : IVec S32x128x128 32) (hU : ∀ i, U i = 0#32 ∨ U i = 1#32)
    (b : Fin 32) (h w : Fin 128) (z : Fin 1) : index n U (ix4 b h w z) = U (ix3 b h w) := by
  unfold index
  pointwise
  rcases hU (ix3 b h w) with e | e <;> rw [e] <;> rfl

/-- Which indices are in range: not negative and at most `n'`. -/
def inRange (n n' : BitVec 32) (U : IVec S32x128x128 32) : IVec S32x128x128 1 :=
  Host.reduce IntOp.andi
    (andi (cmpi .sge (index n U) (broadcastInDim S32x128x128x1 ![] bcast_S_S32x128x128x1 (constantI S_ 32 0#32)))
      (cmpi .sle (index n U) (broadcastInDim S32x128x128x1 ![0, 1, 2, 3] bcast_S1x1x1x1_S32x128x128x1_0_1_2_3
        (broadcastInDim S1x1x1x1 ![3] bcast_S1_S1x1x1x1_3 (constantI S1 32 n')))))
    (constantI S_ 1 1#1) reducesTo_S32x128x128x1_S32x128x128_d3 h_S_

/-- Words 0 and 1 are in range of a table with a second row. -/
theorem inRange_apply (n n' : BitVec 32) (h₀ : IntOp.cmpi .sle 0#32 n' = 1#1) (h₁ : IntOp.cmpi .sle 1#32 n' = 1#1)
    (U : IVec S32x128x128 32) (hU : ∀ i, U i = 0#32 ∨ U i = 1#32) (j : S32x128x128.Idx) : inRange n n' U j = 1#1 := by
  refine Host.reduce_andi_one _ _ _ _ _ rfl fun i => ?_
  obtain ⟨b, h, w, z, rfl⟩ : ∃ (b : Fin 32) (h w : Fin 128) (z : Fin 1), i = ix4 b h w z := ⟨_, _, _, _, eq_ix4 i⟩
  pointwise [index_apply n U hU]
  rcases hU (ix3 b h w) with e | e <;> rw [e]
  · rw [h₀]
    rfl
  · rw [h₁]
    rfl

/-- The whole lookup: the table's rows at the indices in range, the fill value elsewhere. -/
def take {N : Nat} (wf : GatherDims.WF (Table N) S32x128x128x1 S32x128x128x16 [3] [0] [] [0] [] 3 ![1, 16]) (n n' : BitVec 32)
    (W : FVec Ideal (Table N) .f32) (U : IVec S32x128x128 32) : FVec Ideal S32x128x128x16 .f32 :=
  select (broadcastInDim S32x128x128x16 ![0, 1, 2] bcast_S32x128x128_S32x128x128x16_0_1_2 (inRange n n' U))
    (Host.gather (dims N wf) W (index n U))
    (broadcastInDim S32x128x128x16 ![] bcast_S_S32x128x128x16 (constant (F := Ideal) S_ .f32 0x7FC00000#32))

/-- At words 0 and 1 the lookup is the first or the second row. -/
theorem take_apply {N : Nat} (hN : 2 ≤ N)
    (wf : GatherDims.WF (Table N) S32x128x128x1 S32x128x128x16 [3] [0] [] [0] [] 3 ![1, 16]) (n n' : BitVec 32)
    (h₀ : IntOp.cmpi .sle 0#32 n' = 1#1) (h₁ : IntOp.cmpi .sle 1#32 n' = 1#1)
    (W : FVec Ideal (Table N) .f32) (U : IVec S32x128x128 32) (hU : ∀ i, U i = 0#32 ∨ U i = 1#32)
    (b : Fin 32) (h w : Fin 128) (ch : Fin 16) :
    take wf n n' W U (ix4 b h w ch)
      = if U (ix3 b h w) = 0#32 then W (ix2 ⟨0, by omega⟩ ch) else W (ix2 ⟨1, by omega⟩ ch) := by
  unfold take
  rw [ValueIdx.select_apply, Pointwise.broadcastInDim_apply, inRange_apply n n' h₀ h₁ U hU, ValueIdx.select_one,
    gather_apply (by omega)]
  rcases hU (ix3 b h w) with e | e
  · rw [if_pos e]
    refine congrArg W (congrArg (ix2 · ch) (Fin.ext ?_))
    show min (index n U (ix4 b h w 0)).toInt.toNat (N - 1) = 0
    rw [index_apply n U hU, e]
    simp
  · rw [if_neg (by rw [e]; decide)]
    refine congrArg W (congrArg (ix2 · ch) (Fin.ext ?_))
    show min (index n U (ix4 b h w 0)).toInt.toNat (N - 1) = 1
    rw [index_apply n U hU, e]
    simp
    omega

end Cert.ReferenceIdeal.Take

end
-- ==== Proof.Reference.lean ====
/-
  The reference's result at an index: the sum of the four chosen rows, then the words of the first four channels.
-/
module

public import proofs.«01_k».proof.Proof.Take

@[expose] public section

noncomputable section

namespace Cert.ReferenceIdeal.Whole

open Idealize.ShloMosaic Idealize.ShloMosaic.TcCoe Idealize.SL.Sem
open Cert.Spec
open Cert.ReferenceIdeal Cert.ReferenceIdeal.Gen Cert.ReferenceIdeal.Take

/-- Joining sixteen channels and four single ones, read at a channel. -/
theorem join_apply (E : FVec Ideal S32x16x128x128 .f32) (c₀ c₁ c₂ c₃ : FVec Ideal S32x1x128x128 .f32)
    (f : Fin 4 → EReal) (b : Fin 32) (ch : Fin 20) (h w : Fin 128)
    (h₀ : c₀ (ix4 b 0 h w) = f 0) (h₁ : c₁ (ix4 b 0 h w) = f 1) (h₂ : c₂ (ix4 b 0 h w) = f 2) (h₃ : c₃ (ix4 b 0 h w) = f 3) :
    concatenate S32x20x128x128 1 [⟨S32x16x128x128, E⟩, ⟨S32x1x128x128, c₀⟩, ⟨S32x1x128x128, c₁⟩, ⟨S32x1x128x128, c₂⟩,
        ⟨S32x1x128x128, c₃⟩]
        concatenates_S32x16x128x128_S32x1x128x128_S32x1x128x128_S32x1x128x128_S32x1x128x128_S32x20x128x128_d1 (ix4 b ch h w)
      = if hc : ch.val < 16 then E (ix4 b ⟨ch, hc⟩ h w) else f ⟨ch.val - 16, by omega⟩ := by
  have hj : ∀ k : Nat, ∀ hk : ch.val - 16 = k, ∀ hk4 : k < 4, f ⟨ch.val - 16, by omega⟩ = f ⟨k, hk4⟩ := by
    rintro k rfl hk4
    rfl
  pointwise
  by_cases g₀ : ch.val < 16
  · rw [dif_pos g₀, dif_pos g₀]
  rw [dif_neg g₀, dif_neg g₀]
  by_cases g₁ : ch.val - 16 < 1
  · rw [dif_pos g₁, hj 0 (by omega) (by omega)]
    exact (congrArg (fun z => c₀ (ix4 b z h w)) (Subsingleton.elim (α := Fin 1) _ _)).trans h₀
  rw [dif_neg g₁]
  by_cases g₂ : ch.val - 16 - 1 < 1
  · rw [dif_pos g₂, hj 1 (by omega) (by omega)]
    exact (congrArg (fun z => c₁ (ix4 b z h w)) (Subsingleton.elim (α := Fin 1) _ _)).trans h₁
  rw [dif_neg g₂]
  by_cases g₃ : ch.val - 16 - 1 - 1 < 1
  · rw [dif_pos g₃, hj 2 (by omega) (by omega)]
    exact (congrArg (fun z => c₂ (ix4 b z h w)) (Subsingleton.elim (α := Fin 1) _ _)).trans h₂
  rw [dif_neg g₃, hj 3 (by omega) (by omega)]
  exact (congrArg (fun z => c₃ (ix4 b z h w)) (Subsingleton.elim (α := Fin 1) _ _)).trans h₃

/-- Input channel `k` of eight as an array of its own. -/
def channel (X : IVec S32x8x128x128 32) (k : Nat) (hk : S32x8x128x128.Slices ![0, k, 0, 0] S32x1x128x128) : IVec S32x128x128 32 :=
  shapeCast _ (extractStridedSlice S32x1x128x128 ![0, k, 0, 0] X hk) shapeCasts_S32x1x128x128_S32x128x128

/-- Channel `k` at an index is the input there. -/
theorem channel_apply (X : IVec S32x8x128x128 32) (k : Fin 8) (hk : S32x8x128x128.Slices ![0, k.val, 0, 0] S32x1x128x128)
    (b : Fin 32) (h w : Fin 128) : channel X k hk (ix3 b h w) = X (ix4 b k h w) := by
  unfold channel
  pointwise

/-- The rows a table gives for channel `k`, with the row's entries moved to the channel axis. -/
def rows {N : Nat} (wf : GatherDims.WF (Table N) S32x128x128x1 S32x128x128x16 [3] [0] [] [0] [] 3 ![1, 16]) (n n' : BitVec 32)
    (W : FVec Ideal (Table N) .f32) (X : IVec S32x8x128x128 32) (k : Nat) (hk : S32x8x128x128.Slices ![0, k, 0, 0] S32x1x128x128) :
    FVec Ideal S32x16x128x128 .f32 :=
  transpose S32x16x128x128 [0, 3, 1, 2] (take wf n n' W (channel X k hk)) transposes_S32x128x128x16_S32x16x128x128_0_3_1_2

/-- Where the channel's words are 0 and 1 these are the table's first and second rows. -/
theorem rows_apply {N : Nat} (hN : 2 ≤ N)
    (wf : GatherDims.WF (Table N) S32x128x128x1 S32x128x128x16 [3] [0] [] [0] [] 3 ![1, 16]) (n n' : BitVec 32)
    (h₀ : IntOp.cmpi .sle 0#32 n' = 1#1) (h₁ : IntOp.cmpi .sle 1#32 n' = 1#1)
    (W : FVec Ideal (Table N) .f32) (X : IVec S32x8x128x128 32) (k : Fin 8)
    (hX : ∀ (b : Fin 32) (h w : Fin 128), X (ix4 b k h w) = 0#32 ∨ X (ix4 b k h w) = 1#32)
    (hk : S32x8x128x128.Slices ![0, k.val, 0, 0] S32x1x128x128)
    (b : Fin 32) (ch : Fin 16) (h w : Fin 128) :
    rows wf n n' W X k hk (ix4 b ch h w)
      = if X (ix4 b k h w) = 0#32 then W (ix2 ⟨0, by omega⟩ ch) else W (ix2 ⟨1, by omega⟩ ch) := by
  have hU : ∀ i, channel X k hk i = 0#32 ∨ channel X k hk i = 1#32 := by
    intro i
    obtain ⟨b, h, w, rfl⟩ : ∃ (b : Fin 32) (h w : Fin 128), i = ix3 b h w := ⟨_, _, _, eq_ix3 i⟩
    rw [channel_apply]
    exact hX b h w
  unfold rows
  pointwise
  rw [take_apply hN wf n n' h₀ h₁ W _ hU, channel_apply]

/-- The function the reference computes when the words of channels 4 to 7 are 0 or 1: the sum of the four rows chosen by channels 4 to 7, then the words
of channels 0 to 3. -/
def result (X : IVec S32x8x128x128 32) (A : FVec Ideal S1000x16 .f32) (B : FVec Ideal S500x16 .f32)
    (C : FVec Ideal S100x16 .f32) (D : FVec Ideal S50x16 .f32) (b : Fin 32) (ch : Fin 20) (h w : Fin 128) : EReal :=
  if hc : ch.val < 16 then
    (((if X (ix4 b 4 h w) = 0#32 then A (ix2 0 ⟨ch, hc⟩) else A (ix2 1 ⟨ch, hc⟩))
        + (if X (ix4 b 5 h w) = 0#32 then B (ix2 0 ⟨ch, hc⟩) else B (ix2 1 ⟨ch, hc⟩)))
        + (if X (ix4 b 6 h w) = 0#32 then C (ix2 0 ⟨ch, hc⟩) else C (ix2 1 ⟨ch, hc⟩)))
      + (if X (ix4 b 7 h w) = 0#32 then D (ix2 0 ⟨ch, hc⟩) else D (ix2 1 ⟨ch, hc⟩))
  else num (X (ix4 b ⟨ch.val - 16, by omega⟩ h w))

variable (m : (ℓ : Loc nD τ sig) → Buf (Elt Ideal) ℓ)

/-- The reference's result at an index, when every word of channels 4 to 7 is 0 or 1. -/
theorem result_apply (c : Dev nD) (hX : ∀ k : Fin 8, 4 ≤ k.val → ∀ (b : Fin 32) (h w : Fin 128),
      (m ((c.tc : Thread nD τ).loc main_arg0) : IVec S32x8x128x128 32) (ix4 b k h w) = 0#32
        ∨ (m ((c.tc : Thread nD τ).loc main_arg0) : IVec S32x8x128x128 32) (ix4 b k h w) = 1#32)
    (b : Fin 32) (ch : Fin 20) (h w : Fin 128) :
    (Value.res_out0 m c : FVec Ideal S32x20x128x128 .f32) (ix4 b ch h w)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b ch h w := by
  unfold Value.res_out0 Value.res_main_v48
  refine (join_apply _ _ _ _ _ (fun k => num ((m ((c.tc : Thread nD τ).loc main_arg0) : IVec S32x8x128x128 32) (ix4 b (k.castLE (by decide)) h w)))
    b ch h w ?_ ?_ ?_ ?_).trans ?_
  · pointwise
    rfl
  · pointwise
    rfl
  · pointwise
    rfl
  · pointwise
    rfl
  unfold result
  by_cases hc : ch.val < 16
  · rw [dif_pos hc, dif_pos hc]
    exact congrArg₂ (fun x y : EReal => x + y) (congrArg₂ (fun x y : EReal => x + y) (congrArg₂ (fun x y : EReal => x + y)
      (rows_apply (by decide) gather_S1000x16_S32x128x128x1_S32x128x128x16_3_0_n_n_0_3_116_wf 1000#32 999#32
        (by decide) (by decide) (m ((c.tc : Thread nD τ).loc main_arg1)) _ 4 (hX 4 (by decide)) slices_S32x8x128x128_S32x1x128x128_0_4_0_0 b ⟨ch, hc⟩ h w)
      (rows_apply (by decide) gather_S500x16_S32x128x128x1_S32x128x128x16_3_0_n_n_0_3_116_wf 500#32 499#32
        (by decide) (by decide) (m ((c.tc : Thread nD τ).loc main_arg2)) _ 5 (hX 5 (by decide)) slices_S32x8x128x128_S32x1x128x128_0_5_0_0 b ⟨ch, hc⟩ h w))
      (rows_apply (by decide) gather_S100x16_S32x128x128x1_S32x128x128x16_3_0_n_n_0_3_116_wf 100#32 99#32
        (by decide) (by decide) (m ((c.tc : Thread nD τ).loc main_arg3)) _ 6 (hX 6 (by decide)) slices_S32x8x128x128_S32x1x128x128_0_6_0_0 b ⟨ch, hc⟩ h w))
      (rows_apply (by decide) gather_S50x16_S32x128x128x1_S32x128x128x16_3_0_n_n_0_3_116_wf 50#32 49#32
        (by decide) (by decide) (m ((c.tc : Thread nD τ).loc main_arg4)) _ 7 (hX 7 (by decide)) slices_S32x8x128x128_S32x1x128x128_0_7_0_0 b ⟨ch, hc⟩ h w)
  · rw [dif_neg hc, dif_neg hc]
    rfl

end Cert.ReferenceIdeal.Whole

end
-- ==== Proof.Pre.lean ====
/-
  What the precondition says of the arguments: every word that indexes a table is 0 or 1, and the first row of every table is finite.
-/
module

public import proofs.«01_k».proof.Proof.Gen.Pre_binary_index_finite_base
public import Idealize.ShloMosaic.PureOps.Ideal
public import Idealize.ShloMosaic.Lib.ReduceAll
public import Idealize.ShloMosaic.Lib.Pointwise
public import Idealize.ShloMosaic.Lib.StableHlo.Predicate

@[expose] public section

noncomputable section

namespace Cert.Pre_binary_index_finite_base.Read

open Idealize.ShloMosaic
open Cert.Pre_binary_index_finite_base Cert.Pre_binary_index_finite_base.Gen

instance : Subsingleton S_.Idx := ⟨fun _ _ => funext fun a => a.elim0⟩

/-- A word at least 0 and less than 2 is 0 or 1. -/
theorem word_of_bits (x : BitVec 32) (h : IntOp.andi (IntOp.cmpi .sge x 0#32) (IntOp.cmpi .slt x 2#32) = 1#1) :
    x = 0#32 ∨ x = 1#32 := by
  obtain ⟨h0, h2⟩ := IntOp.andi_eq_one.1 h
  have h0' : (0#32).sle x = true := (StableHlo.Predicate.ofBool_eq_one_iff _).1 h0
  have h2' : x.slt 2#32 = true := (StableHlo.Predicate.ofBool_eq_one_iff _).1 h2
  rw [BitVec.sle_iff_toInt_le] at h0'
  rw [BitVec.slt_iff_toInt_lt] at h2'
  have a : (0#32).toInt = 0 := by decide
  have b : (2#32).toInt = 2 := by decide
  have c : (1#32).toInt = 1 := by decide
  rcases (by omega : x.toInt = 0 ∨ x.toInt = 1) with e | e
  · exact .inl (BitVec.eq_of_toInt_eq (e.trans a.symm))
  · exact .inr (BitVec.eq_of_toInt_eq (e.trans c.symm))

/-- An extended real whose absolute value is less than infinity is finite. -/
theorem finite_of_bit (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  have h' : max x (-x) < ⊤ := of_decide_eq_true ((StableHlo.Predicate.ofBool_eq_one_iff _).1 h)
  constructor
  · rintro rfl
    simp at h'
  · rintro rfl
    simp at h'

/-- The test on a row of 16 says that every entry is finite. -/
theorem finite_entry (V : FVec Ideal S1x16 .f32) (j : S_.Idx)
    (h : Host.reduce IntOp.andi (cmpf .olt (Host.absf (shapeCast S16 V shapeCasts_S1x16_S16))
        (broadcastInDim S16 ![] bcast_S_S16 (constant (F := Ideal) S_ .f32 0x7F800000#32))) (constantI S_ 1 1#1)
        reducesTo_S16_S_d0 h_S_ j = 1#1) (ch : Fin 16) : V (ix2 0 ch) ≠ ⊤ ∧ V (ix2 0 ch) ≠ ⊥ := by
  have h' := Host.reduce_andi_all _ _ _ _ _ h (ix1 ch)
  pointwise at h'
  exact finite_of_bit _ h'

/-- The first row of a table as an array of its own, entry by entry. -/
theorem row_apply {N : Nat} (hN : 0 < N) (W : FVec Ideal ⟨2, ![N, 16]⟩ .f32)
    (hs : (⟨2, ![N, 16]⟩ : Shape).Slices ![0, 0] S1x16) (ch : Fin 16) :
    extractStridedSlice S1x16 ![0, 0] W hs (ix2 0 ch) = W (ix2 ⟨0, hN⟩ ch) := by
  refine congrArg W (funext fun a => Fin.ext ?_)
  match a with
  | ⟨0, _⟩ => rfl
  | ⟨1, _⟩ => exact Nat.zero_add ch.val

/-- The test on one table's first row says that every entry of that row is finite. -/
theorem finite_row {N : Nat} (hN : 0 < N) (W : FVec Ideal ⟨2, ![N, 16]⟩ .f32)
    (hs : (⟨2, ![N, 16]⟩ : Shape).Slices ![0, 0] S1x16) (j : S_.Idx)
    (h : Host.reduce IntOp.andi (cmpf .olt (Host.absf (shapeCast S16 (extractStridedSlice S1x16 ![0, 0] W hs) shapeCasts_S1x16_S16))
        (broadcastInDim S16 ![] bcast_S_S16 (constant (F := Ideal) S_ .f32 0x7F800000#32))) (constantI S_ 1 1#1)
        reducesTo_S16_S_d0 h_S_ j = 1#1) (ch : Fin 16) :
    W (ix2 ⟨0, hN⟩ ch) ≠ ⊤ ∧ W (ix2 ⟨0, hN⟩ ch) ≠ ⊥ := by
  rw [← row_apply hN W hs ch]
  exact finite_entry _ j h ch

/-- The test on the last four channels says that every word there is 0 or 1. -/
theorem word_entry (X : IVec S32x8x128x128 32) (hs : S32x8x128x128.Slices ![0, 4, 0, 0] S32x4x128x128) (j : S_.Idx)
    (h : Host.reduce IntOp.andi
        (andi
          (cmpi .sge (extractStridedSlice S32x4x128x128 ![0, 4, 0, 0] X hs)
            (broadcastInDim S32x4x128x128 ![] bcast_S_S32x4x128x128 (constantI S_ 32 0#32)))
          (cmpi .slt (extractStridedSlice S32x4x128x128 ![0, 4, 0, 0] X hs)
            (broadcastInDim S32x4x128x128 ![] bcast_S_S32x4x128x128 (constantI S_ 32 2#32)))) (constantI S_ 1 1#1)
        reducesTo_S32x4x128x128_S_d0_1_2_3 h_S_ j = 1#1) (k : Fin 8) (hk : 4 ≤ k.val) (b : Fin 32) (y x : Fin 128) :
    X (ix4 b k y x) = 0#32 ∨ X (ix4 b k y x) = 1#32 := by
  have h' := Host.reduce_andi_all _ _ _ _ _ h (ix4 b ⟨k.val - 4, by omega⟩ y x)
  have e : extractStridedSlice S32x4x128x128 ![0, 4, 0, 0] X hs (ix4 b ⟨k.val - 4, by omega⟩ y x) = X (ix4 b k y x) := by
    refine congrArg X (funext fun a => Fin.ext ?_)
    match a with
    | ⟨0, _⟩ => exact Nat.zero_add b.val
    | ⟨1, _⟩ => exact Nat.add_sub_cancel' hk
    | ⟨2, _⟩ => exact Nat.zero_add y.val
    | ⟨3, _⟩ => exact Nat.zero_add x.val
  rw [← e]
  exact word_of_bits _ h'

/-- Where the precondition holds, every word of channels 4 to 7 is 0 or 1 and every table's first row is finite. -/
theorem reading (X : IVec S32x8x128x128 32) (A : FVec Ideal S1000x16 .f32) (B : FVec Ideal S500x16 .f32)
    (C : FVec Ideal S100x16 .f32) (D : FVec Ideal S50x16 .f32) (h : fn (F := Ideal) X A B C D = fun _ => 1#1) :
    (∀ k : Fin 8, 4 ≤ k.val → ∀ (b : Fin 32) (h w : Fin 128), X (ix4 b k h w) = 0#32 ∨ X (ix4 b k h w) = 1#32)
      ∧ (∀ ch : Fin 16, A (ix2 0 ch) ≠ ⊤ ∧ A (ix2 0 ch) ≠ ⊥) ∧ (∀ ch : Fin 16, B (ix2 0 ch) ≠ ⊤ ∧ B (ix2 0 ch) ≠ ⊥)
      ∧ (∀ ch : Fin 16, C (ix2 0 ch) ≠ ⊤ ∧ C (ix2 0 ch) ≠ ⊥) ∧ (∀ ch : Fin 16, D (ix2 0 ch) ≠ ⊤ ∧ D (ix2 0 ch) ≠ ⊥) := by
  have j : S_.Idx := fun a => a.elim0
  have h0 := congrFun h j
  unfold fn fn_part1 at h0
  obtain ⟨h1, hD⟩ := IntOp.andi_eq_one.1 h0
  obtain ⟨h2, hC⟩ := IntOp.andi_eq_one.1 h1
  obtain ⟨h3, hB⟩ := IntOp.andi_eq_one.1 h2
  obtain ⟨hX, hA⟩ := IntOp.andi_eq_one.1 h3
  refine ⟨fun k hk b h w => word_entry X _ j hX k hk b h w, fun ch => finite_row (by decide) A _ j hA ch, fun ch => finite_row (by decide) B _ j hB ch,
    fun ch => finite_row (by decide) C _ j hC ch, fun ch => finite_row (by decide) D _ j hD ch⟩

end Cert.Pre_binary_index_finite_base.Read

end
-- ==== Proof.Equal.lean ====
/-
  The two result functions are equal where every word that indexes a table is 0 or 1 and the first row of every table is finite, and so are the
  two result arrays of memories that agree on the arguments.
-/
module

public import proofs.«01_k».proof.Defs
public import proofs.«01_k».proof.Proof.Kernel
public import proofs.«01_k».proof.Proof.Reference
public import proofs.«01_k».proof.Proof.Pre

@[expose] public section

noncomputable section

namespace Cert.Equal

open Idealize.ShloMosaic Idealize.ShloMosaic.TcCoe Idealize.SL.Sem
open Cert.Spec

attribute [local instance] Cert.KernelIdeal.Gen.facts Cert.ReferenceIdeal.Gen.facts Cert.Pre_binary_index_finite_base.Gen.facts

/-- The kernel's function is the reference's at words 0 and 1 of channels 4 to 7 and tables with a finite first row. -/
theorem result_eq (X : IVec Cert.KernelIdeal.S32x8x128x128 32) (A : FVec Ideal Cert.KernelIdeal.S1000x16 .f32)
    (B : FVec Ideal Cert.KernelIdeal.S500x16 .f32) (C : FVec Ideal Cert.KernelIdeal.S100x16 .f32)
    (D : FVec Ideal Cert.KernelIdeal.S50x16 .f32)
    (hX : ∀ k : Fin 8, 4 ≤ k.val → ∀ (b : Fin 32) (h w : Fin 128), X (ix4 b k h w) = 0#32 ∨ X (ix4 b k h w) = 1#32)
    (hA : ∀ ch : Fin 16, A (ix2 0 ch) ≠ ⊤ ∧ A (ix2 0 ch) ≠ ⊥) (hB : ∀ ch : Fin 16, B (ix2 0 ch) ≠ ⊤ ∧ B (ix2 0 ch) ≠ ⊥)
    (hC : ∀ ch : Fin 16, C (ix2 0 ch) ≠ ⊤ ∧ C (ix2 0 ch) ≠ ⊥) (hD : ∀ ch : Fin 16, D (ix2 0 ch) ≠ ⊤ ∧ D (ix2 0 ch) ≠ ⊥)
    (b : Fin 32) (ch : Fin 20) (h w : Fin 128) :
    Cert.KernelIdeal.Whole.result X A B C D b ch h w = Cert.ReferenceIdeal.Whole.result X A B C D b ch h w := by
  unfold Cert.KernelIdeal.Whole.result Cert.ReferenceIdeal.Whole.result
  by_cases hc : ch.val < 16
  · rw [dif_pos hc, dif_pos hc]
    exact blend_eq _ _ _ _ _ _ _ _ _ _ _ _ (hX 4 (by decide) b h w) (hX 5 (by decide) b h w)
      (hX 6 (by decide) b h w) (hX 7 (by decide) b h w) (hA _) (hB _) (hC _) (hD _)
  · rw [dif_neg hc, dif_neg hc]

/-- From memories agreeing on the arguments and meeting the precondition, the reference's result is the kernel's. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_binary_index_finite_base m) (c : Dev Cert.KernelIdeal.nD)
    (h₀ : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h₁ : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h₂ : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h₃ : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h₄ : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    (Cert.ReferenceIdeal.Value.res_out0 m' c : FVec Ideal Cert.KernelIdeal.S32x20x128x128 .f32) = Cert.KernelIdeal.Whole.goal m c := by
  obtain ⟨hX, hA, hB, hC, hD⟩ := Cert.Pre_binary_index_finite_base.Read.reading _ _ _ _ _ (hpre c)
  funext i
  obtain ⟨b, ch, h, w, rfl⟩ : ∃ (b : Fin 32) (ch : Fin 20) (h w : Fin 128), i = ix4 b ch h w := ⟨_, _, _, _, eq_ix4 i⟩
  refine (Cert.ReferenceIdeal.Whole.result_apply m' c (fun k hk b h w => ?_) b ch h w).trans ?_
  · rw [h₀]
    exact hX k hk b h w
  · rw [h₀, h₁, h₂, h₃, h₄]
    exact (result_eq _ _ _ _ _ hX hA hB hC hD b ch h w).symm

end Cert.Equal

end
-- ==== Proof.lean ====
/-
  The certificate: the kernel and the reference run, end with their arguments unchanged and every semaphore at zero, and,
  where the precondition holds, end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_binary_index_finite_base
public import proofs.«01_k».proof.Proof.Gen.KernelIdeal.Value
public import proofs.«01_k».proof.Proof.Gen.ReferenceIdeal.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates without fault, keeps its arguments and leaves every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4)
          = m ((c.tc : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the kernel and the reference end with equal results. -/
theorem algebraic : algebraic_KernelIdeal_ReferenceIdeal_pre_binary_index_finite_base := by
  intro m ρ m' ρ' hpre hagree
  refine ⟨fun c => Cert.KernelIdeal.Whole.goal m c, ?_, ?_⟩
  · exact (θ_run Cert.KernelIdeal.defs _ _).mono
      (fun r h c => ⟨(h c).1.trans (Cert.KernelIdeal.Whole.final m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨h₀, h₁, h₂, h₃, h₄⟩ := hagree c
    exact Cert.Equal.arrays_eq m m' hpre c h₀ h₁ h₂ h₃ h₄

/-- Everything the certificate claims. -/
theorem claim : Cert.Claim :=
  ⟨Cert.Kernel.Gen.facts, Cert.KernelIdeal.Gen.facts, Cert.ReferenceIdeal.Gen.facts, Cert.Pre_binary_index_finite_base.Gen.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, algebraic⟩

end Cert.Proof

end
